-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_temp" .f32 0x41200000#32 ((134217728 / 13421773 : ℝ) : EReal)

def algebraic_KernelIdeal_ReferenceIdeal_on_untied [hKernelIdeal : Cert.KernelIdeal.Facts] [hReferenceIdeal : Cert.ReferenceIdeal.Facts] [hOn_untied : Cert.On_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_1)) (v1 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![4096, 50, 64]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.KernelIdeal.nD Cert.KernelIdeal.τ).loc Cert.KernelIdeal.main_v0_1) i = v0 c i)
          ∧ (∀ i : (⟨3, ![4096, 50, 512]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 i = 1#1 → r.2.mem ((c.tc : Thread Cert.KernelIdeal.nD Cert.KernelIdeal.τ).loc Cert.KernelIdeal.main_v0_0) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![4096, 50, 64]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.ReferenceIdeal.nD Cert.ReferenceIdeal.τ).loc Cert.ReferenceIdeal.main_v25) i = v0 c i)
          ∧ (∀ i : (⟨3, ![4096, 50, 512]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 i = 1#1 → r.2.mem ((c.tc : Thread Cert.ReferenceIdeal.nD Cert.ReferenceIdeal.τ).loc Cert.ReferenceIdeal.main_v12) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hOn_untied : Cert.On_untied.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_untied (hKernelIdeal := hKernelIdeal) (hReferenceIdeal := hReferenceIdeal) (hOn_untied := hOn_untied)
-- ==== On_untied.lean ====
abbrev S4096x50x64 : Shape := ⟨3, ![4096, 50, 64]⟩
abbrev S512x64 : Shape := ⟨2, ![512, 64]⟩
abbrev S_ : Shape := ⟨0, ![]⟩
abbrev S4096x50 : Shape := ⟨2, ![4096, 50]⟩
abbrev S4096x50x1 : Shape := ⟨3, ![4096, 50, 1]⟩
abbrev S512 : Shape := ⟨1, ![512]⟩
abbrev S512x1 : Shape := ⟨2, ![512, 1]⟩
abbrev S4096x50x512 : Shape := ⟨3, ![4096, 50, 512]⟩
abbrev S4096x50x9 : Shape := ⟨3, ![4096, 50, 9]⟩
abbrev S4096x50x8 : Shape := ⟨3, ![4096, 50, 8]⟩

class Facts : Prop where
  reducesTo_S4096x50x64_S4096x50_d2 : S4096x50x64.ReducesTo [2] S4096x50
  h_S_ : 0 < S_.numel
  bcast_S4096x50_S4096x50x1_0_1 : S4096x50.BroadcastsInDim S4096x50x1 (![0, 1] : Fin 2 → Fin S4096x50x1.rank)
  bcast_S_S4096x50x1 : S_.BroadcastsInDim S4096x50x1 (![] : Fin 0 → Fin S4096x50x1.rank)
  bcast_S4096x50x1_S4096x50x64_0_1_2 : S4096x50x1.BroadcastsInDim S4096x50x64 (![0, 1, 2] : Fin 3 → Fin S4096x50x64.rank)
  reducesTo_S512x64_S512_d1 : S512x64.ReducesTo [1] S512
  bcast_S512_S512x1_0 : S512.BroadcastsInDim S512x1 (![0] : Fin 1 → Fin S512x1.rank)
  bcast_S_S512x1 : S_.BroadcastsInDim S512x1 (![] : Fin 0 → Fin S512x1.rank)
  bcast_S512x1_S512x64_0_1 : S512x1.BroadcastsInDim S512x64 (![0, 1] : Fin 2 → Fin S512x64.rank)
  sliceFits_S4096x50x512_S4096x50x9 : S4096x50x512.Slices (fun _ => 0) S4096x50x9
  slices_S4096x50x9_S4096x50x8_0_0_1 : S4096x50x9.Slices ![0, 0, 1] S4096x50x8
  slices_S4096x50x9_S4096x50x8_0_0_0 : S4096x50x9.Slices ![0, 0, 0] S4096x50x8
  reducesTo_S4096x50x8_S4096x50_d2 : S4096x50x8.ReducesTo [2] S4096x50
  bcast_S_S4096x50x512 : S_.BroadcastsInDim S4096x50x512 (![] : Fin 0 → Fin S4096x50x512.rank)
  dot_S4096x50x64_S512x64_S4096x50x512_2_1_01_0_n_n_wf : DotDims.WF S4096x50x64 S512x64 S4096x50x512 [2] [1] [0, 1] [0] [] []

variable [Facts]

def dot_S4096x50x64_S512x64_S4096x50x512_2_1_01_0_n_n : DotDims S4096x50x64 S512x64 S4096x50x512 where
  lhsContracting := [2]
  rhsContracting := [1]
  lhsNonContracting := [0, 1]
  rhsNonContracting := [0]
  lhsBatch := []
  rhsBatch := []
  wf := dot_S4096x50x64_S512x64_S4096x50x512_2_1_01_0_n_n_wf
def fn_norm {F : FTy → Type} [FloatOps F] (arg0 : FVec F S4096x50x64 .f32) : FVec F S4096x50x1 .f32 :=
  let v0 : FVec F S4096x50x64 .f32 := mulf arg0 arg0
  let cst : FVec F S_ .f32 := constant S_ .f32 0x00000000#32
  let v1 : FVec F S4096x50 .f32 := (fun x v => Host.reduceAdd x v reducesTo_S4096x50x64_S4096x50_d2 h_S_) v0 cst
  let v2 : FVec F S4096x50x1 .f32 := broadcastInDim S4096x50x1 ![0, 1] bcast_S4096x50_S4096x50x1_0_1 v1
  let v3 : FVec F S4096x50x1 .f32 := Host.sqrt v2
  v3

def fn_norm_0 {F : FTy → Type} [FloatOps F] (arg0 : FVec F S512x64 .f32) : FVec F S512x1 .f32 :=
  let v0 : FVec F S512x64 .f32 := mulf arg0 arg0
  let cst : FVec F S_ .f32 := constant S_ .f32 0x00000000#32
  let v1 : FVec F S512 .f32 := (fun x v => Host.reduceAdd x v reducesTo_S512x64_S512_d1 h_S_) v0 cst
  let v2 : FVec F S512x1 .f32 := broadcastInDim S512x1 ![0] bcast_S512_S512x1_0 v1
  let v3 : FVec F S512x1 .f32 := Host.sqrt v2
  v3

def fn {F : FTy → Type} [FloatOps F] (main_arg0 : FVec F S4096x50x64 .f32) (main_arg1 : FVec F S512x64 .f32) : IVec S4096x50x64 1 × IVec S4096x50x512 1 :=
  let main_v0 : FVec F S4096x50x1 .f32 := fn_norm (F := F) main_arg0
  let main_cst : FVec F S_ .f32 := constant S_ .f32 0x33D6BF95#32
  let main_v1 : FVec F S4096x50x1 .f32 := broadcastInDim S4096x50x1 ![] bcast_S_S4096x50x1 main_cst
  let main_v2 : FVec F S4096x50x1 .f32 := addf main_v0 main_v1
  let main_v3 : FVec F S4096x50x64 .f32 := broadcastInDim S4096x50x64 ![0, 1, 2] bcast_S4096x50x1_S4096x50x64_0_1_2 main_v2
  let main_v4 : FVec F S4096x50x64 .f32 := Host.divf main_arg0 main_v3
  let main_v5 : FVec F S512x1 .f32 := fn_norm_0 (F := F) main_arg1
  let main_cst_0 : FVec F S_ .f32 := constant S_ .f32 0x33D6BF95#32
  let main_v6 : FVec F S512x1 .f32 := broadcastInDim S512x1 ![] bcast_S_S512x1 main_cst_0
  let main_v7 : FVec F S512x1 .f32 := addf main_v5 main_v6
  let main_v8 : FVec F S512x64 .f32 := broadcastInDim S512x64 ![0, 1] bcast_S512x1_S512x64_0_1 main_v7
  let main_v9 : FVec F S512x64 .f32 := Host.divf main_arg1 main_v8
  let main_v10 : FVec F S4096x50x512 .f32 := (fun l r => Host.dotGeneral dot_S4096x50x64_S512x64_S4096x50x512_2_1_01_0_n_n none l r) main_v4 main_v9
  let main_values : FVec F S4096x50x9 .f32 := (fun x => (Host.topK S4096x50x9 2 (FloatOps.cmpfTotal .gt) x sliceFits_S4096x50x512_S4096x50x9).1) main_v10
  let main_indices : IVec S4096x50x9 32 := (fun x => (Host.topK S4096x50x9 2 (FloatOps.cmpfTotal .gt) x sliceFits_S4096x50x512_S4096x50x9).2) main_v10
  let main_v11 : FVec F S4096x50x8 .f32 := (extractStridedSlice S4096x50x8 ![0, 0, 1] · slices_S4096x50x9_S4096x50x8_0_0_1) main_values
  let main_v12 : FVec F S4096x50x8 .f32 := (extractStridedSlice S4096x50x8 ![0, 0, 0] · slices_S4096x50x9_S4096x50x8_0_0_0) main_values
  let main_v13 : IVec S4096x50x8 1 := cmpf .olt main_v11 main_v12
  let main_c : IVec S_ 1 := constantI S_ 1 1#1
  let main_v14 : IVec S4096x50 1 := (fun x v => Host.reduce IntOp.andi x v reducesTo_S4096x50x8_S4096x50_d2 h_S_) main_v13 main_c
  let main_v15 : IVec S4096x50x1 1 := broadcastInDim S4096x50x1 ![0, 1] bcast_S4096x50_S4096x50x1_0_1 main_v14
  let main_v16 : IVec S4096x50x64 1 := broadcastInDim S4096x50x64 ![0, 1, 2] bcast_S4096x50x1_S4096x50x64_0_1_2 main_v15
  let main_c_1 : IVec S_ 1 := constantI S_ 1 1#1
  let main_v17 : IVec S4096x50x512 1 := broadcastInDim S4096x50x512 ![] bcast_S_S4096x50x512 main_c_1
  (main_v16, main_v17)
-- ==== Kernel.lean ====
abbrev S4096x50x64 : Shape := ⟨3, ![4096, 50, 64]⟩
abbrev S512x64 : Shape := ⟨2, ![512, 64]⟩
abbrev S4096x50x512 : Shape := ⟨3, ![4096, 50, 512]⟩
abbrev S128x50x64 : Shape := ⟨3, ![128, 50, 64]⟩
abbrev S128x50x512 : Shape := ⟨3, ![128, 50, 512]⟩
abbrev S128x50 : Shape := ⟨2, ![128, 50]⟩
abbrev S128x50x1 : Shape := ⟨3, ![128, 50, 1]⟩
abbrev S512 : Shape := ⟨1, ![512]⟩
abbrev S512x1 : Shape := ⟨2, ![512, 1]⟩
abbrev S6400x64 : Shape := ⟨2, ![6400, 64]⟩
abbrev S6400x512 : Shape := ⟨2, ![6400, 512]⟩
abbrev S6400 : Shape := ⟨1, ![6400]⟩
abbrev S6400x1 : Shape := ⟨2, ![6400, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x50x64, .f32⟩
  | .hbm, ⟨1, _⟩ => ⟨S512x64, .f32⟩
  | .hbm, ⟨2, _⟩ => ⟨S4096x50x512, .f32⟩
  | .hbm, ⟨3, _⟩ => ⟨S4096x50x64, .f32⟩
  | .local _ .vmem, ⟨0, _⟩ => ⟨S128x50x64, .f32⟩
  | .local _ .vmem, ⟨1, _⟩ => ⟨S128x50x64, .f32⟩
  | .local _ .vmem, ⟨2, _⟩ => ⟨S512x64, .f32⟩
  | .local _ .vmem, ⟨3, _⟩ => ⟨S128x50x512, .f32⟩
  | .local _ .vmem, ⟨4, _⟩ => ⟨S128x50x512, .f32⟩
  | .local _ .vmem, ⟨5, _⟩ => ⟨S128x50x64, .f32⟩
  | .local _ .vmem, ⟨6, _⟩ => ⟨S128x50x64, .f32⟩
  | _, _ => ⟨S4096x50x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x50x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x50x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x50x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "inv_temp" => some ((134217728 / 13421773 : ℝ) : EReal)
  | _ => none
-- ==== ReferenceIdeal.lean ====
abbrev S4096x50x64 : Shape := ⟨3, ![4096, 50, 64]⟩
abbrev S512x64 : Shape := ⟨2, ![512, 64]⟩
abbrev S_ : Shape := ⟨0, ![]⟩
abbrev S4096x50 : Shape := ⟨2, ![4096, 50]⟩
abbrev S4096x50x1 : Shape := ⟨3, ![4096, 50, 1]⟩
abbrev S512 : Shape := ⟨1, ![512]⟩
abbrev S512x1 : Shape := ⟨2, ![512, 1]⟩
abbrev S4096x50x512 : Shape := ⟨3, ![4096, 50, 512]⟩
abbrev S4096x50x8 : Shape := ⟨3, ![4096, 50, 8]⟩
abbrev S4096x50x8x1 : Shape := ⟨4, ![4096, 50, 8, 1]⟩
abbrev S1 : Shape := ⟨1, ![1]⟩
abbrev S1x1x1x1 : Shape := ⟨4, ![1, 1, 1, 1]⟩
abbrev S4096x50x8x64 : Shape := ⟨4, ![4096, 50, 8, 64]⟩

abbrev nBuf : Space → Nat
  | .hbm => 66
  | .vmem => 0
  | .smem => 0
  | _ => 0

abbrev bufTy : (tb : Table) → Fin (tcTables nBuf tb) → BufTy
  | .hbm, ⟨0, _⟩ => ⟨S4096x50x64, .f32⟩
  | .hbm, ⟨1, _⟩ => ⟨S512x64, .f32⟩
  | .hbm, ⟨2, _⟩ => ⟨S4096x50x64, .f32⟩
  | .hbm, ⟨3, _⟩ => ⟨S_, .f32⟩
  | .hbm, ⟨4, _⟩ => ⟨S4096x50, .f32⟩
  | .hbm, ⟨5, _⟩ => ⟨S4096x50x1, .f32⟩
  | .hbm, ⟨6, _⟩ => ⟨S4096x50x1, .f32⟩
  | .hbm, ⟨7, _⟩ => ⟨S_, .f32⟩
  | .hbm, ⟨8, _⟩ => ⟨S4096x50x1, .f32⟩
  | .hbm, ⟨9, _⟩ => ⟨S4096x50x1, .f32⟩
  | .hbm, ⟨10, _⟩ => ⟨S4096x50x64, .f32⟩
  | .hbm, ⟨11, _⟩ => ⟨S4096x50x64, .f32⟩
  | .hbm, ⟨12, _⟩ => ⟨S512x64, .f32⟩
  | .hbm, ⟨13, _⟩ => ⟨S_, .f32⟩
  | .hbm, ⟨14, _⟩ => ⟨S512, .f32⟩
  | .hbm, ⟨15, _⟩ => ⟨S512x1, .f32⟩
  | .hbm, ⟨16, _⟩ => ⟨S512x1, .f32⟩
  | .hbm, ⟨17, _⟩ => ⟨S_, .f32⟩
  | .hbm, ⟨18, _⟩ => ⟨S512x1, .f32⟩
  | .hbm, ⟨19, _⟩ => ⟨S512x1, .f32⟩
  | .hbm, ⟨20, _⟩ => ⟨S512x64, .f32⟩
  | .hbm, ⟨21, _⟩ => ⟨S512x64, .f32⟩
  | .hbm, ⟨22, _⟩ => ⟨S4096x50x512, .f32⟩
  | .hbm, ⟨23, _⟩ => ⟨S_, .f32⟩
  | .hbm, ⟨24, _⟩ => ⟨S4096x50x512, .f32⟩
  | .hbm, ⟨25, _⟩ => ⟨S4096x50x512, .f32⟩
  | .hbm, ⟨26, _⟩ => ⟨S4096x50x8, .f32⟩
  | .hbm, ⟨27, _⟩ => ⟨S4096x50x8, .i32⟩
  | .hbm, ⟨28, _⟩ => ⟨S_, .f32⟩
  | .hbm, ⟨29, _⟩ => ⟨S4096x50, .f32⟩
  | .hbm, ⟨30, _⟩ => ⟨S_, .f32⟩
  | .hbm, ⟨31, _⟩ => ⟨S4096x50, .f32⟩
  | .hbm, ⟨32, _⟩ => ⟨S4096x50, .f32⟩
  | .hbm, ⟨33, _⟩ => ⟨S4096x50x1, .f32⟩
  | .hbm, ⟨34, _⟩ => ⟨S4096x50x8, .f32⟩
  | .hbm, ⟨35, _⟩ => ⟨S4096x50x8, .f32⟩
  | .hbm, ⟨36, _⟩ => ⟨S4096x50x8, .f32⟩
  | .hbm, ⟨37, _⟩ => ⟨S_, .f32⟩
  | .hbm, ⟨38, _⟩ => ⟨S4096x50, .f32⟩
  | .hbm, ⟨39, _⟩ => ⟨S4096x50x1, .f32⟩
  | .hbm, ⟨40, _⟩ => ⟨S4096x50x8, .f32⟩
  | .hbm, ⟨41, _⟩ => ⟨S4096x50x8, .f32⟩
  | .hbm, ⟨42, _⟩ => ⟨S_, .i32⟩
  | .hbm, ⟨43, _⟩ => ⟨S4096x50x8, .i32⟩
  | .hbm, ⟨44, _⟩ => ⟨S4096x50x8, .i1⟩
  | .hbm, ⟨45, _⟩ => ⟨S_, .i32⟩
  | .hbm, ⟨46, _⟩ => ⟨S4096x50x8, .i32⟩
  | .hbm, ⟨47, _⟩ => ⟨S4096x50x8, .i32⟩
  | .hbm, ⟨48, _⟩ => ⟨S4096x50x8, .i32⟩
  | .hbm, ⟨49, _⟩ => ⟨S4096x50x8x1, .i32⟩
  | .hbm, ⟨50, _⟩ => ⟨S1, .i32⟩
  | .hbm, ⟨51, _⟩ => ⟨S_, .i32⟩
  | .hbm, ⟨52, _⟩ => ⟨S4096x50x8x1, .i32⟩
  | .hbm, ⟨53, _⟩ => ⟨S4096x50x8x1, .i1⟩
  | .hbm, ⟨54, _⟩ => ⟨S1x1x1x1, .i32⟩
  | .hbm, ⟨55, _⟩ => ⟨S4096x50x8x1, .i32⟩
  | .hbm, ⟨56, _⟩ => ⟨S4096x50x8x1, .i1⟩
  | .hbm, ⟨57, _⟩ => ⟨S4096x50x8x1, .i1⟩
  | .hbm, ⟨58, _⟩ => ⟨S_, .i1⟩
  | .hbm, ⟨59, _⟩ => ⟨S4096x50x8, .i1⟩
  | .hbm, ⟨60, _⟩ => ⟨S4096x50x8x64, .f32⟩
  | .hbm, ⟨61, _⟩ => ⟨S4096x50x8x64, .i1⟩
  | .hbm, ⟨62, _⟩ => ⟨S_, .f32⟩
  | .hbm, ⟨63, _⟩ => ⟨S4096x50x8x64, .f32⟩
  | .hbm, ⟨64, _⟩ => ⟨S4096x50x8x64, .f32⟩
  | .hbm, ⟨65, _⟩ => ⟨S4096x50x64, .f32⟩
  | _, _ => ⟨S4096x50x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_values : Ref sig .tc := ⟨.hbm, 26, rfl⟩
abbrev main_indices : Ref sig .tc := ⟨.hbm, 27, rfl⟩
abbrev main_cst_2 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_call2_c : Ref sig .tc := ⟨.hbm, 42, rfl⟩
abbrev main_call2_v0 : Ref sig .tc := ⟨.hbm, 43, rfl⟩
abbrev main_call2_v1 : Ref sig .tc := ⟨.hbm, 44, rfl⟩
abbrev main_call2_c_0 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_v5 : Ref sig .tc := ⟨.hbm, 49, rfl⟩
abbrev main_call2_c_1 : Ref sig .tc := ⟨.hbm, 50, rfl⟩
abbrev main_call2_c_2 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_v9 : Ref sig .tc := ⟨.hbm, 55, rfl⟩
abbrev main_call2_v10 : Ref sig .tc := ⟨.hbm, 56, rfl⟩
abbrev main_call2_v11 : Ref sig .tc := ⟨.hbm, 57, rfl⟩
abbrev main_call2_c_3 : Ref sig .tc := ⟨.hbm, 58, rfl⟩
abbrev main_call2_v12 : Ref sig .tc := ⟨.hbm, 59, rfl⟩
abbrev main_call2_v13 : Ref sig .tc := ⟨.hbm, 60, rfl⟩
abbrev main_call2_v14 : Ref sig .tc := ⟨.hbm, 61, rfl⟩
abbrev main_call2_cst : Ref sig .tc := ⟨.hbm, 62, rfl⟩
abbrev main_call2_v15 : Ref sig .tc := ⟨.hbm, 63, rfl⟩
abbrev main_v24 : Ref sig .tc := ⟨.hbm, 64, rfl⟩
abbrev main_v25 : Ref sig .tc := ⟨.hbm, 65, rfl⟩

abbrev nD : Nat := 1
abbrev τ : Topo := Topo.v7x

variable {F : FTy → Type} [FloatOps F]
-- ==== Proof.Row.lean ====
/- One token against the prototypes, as mathematics over the extended reals: the length of a row, the cosine of two rows,
   and the fact that a cosine is always a real number (a row with an infinite entry has infinite length, so its quotients
   are zero). -/
module

public import Idealize.ShloMosaic.PureOps.Ideal.Laws

@[expose] public section

noncomputable section

namespace Cert.Row

open Idealize.ShloMosaic

/-- The small number added to a row's length. -/
def eps : EReal := Ideal.ofBits .f32 0x33D6BF95#32

/-- A row's length, with the small number added. -/
def len (x : Fin 64 → EReal) : EReal := Ideal.sqrt (∑ d, x d * x d) + eps

/-- The inner product of two rows, each divided by its length. -/
def cosine (x y : Fin 64 → EReal) : EReal := ∑ d, Ideal.div (x d) (len x) * Ideal.div (y d) (len y)

theorem eps_real : ∃ e : ℝ, 0 < e ∧ eps = (e : EReal) := by
  refine ⟨_, ?_, by simp [eps, Ideal.ofBits, Ideal.ieee]; rfl⟩
  positivity

/-- A sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sqrt_coe {r : ℝ} (h : 0 ≤ r) : Ideal.sqrt (r : EReal) = (Real.sqrt r : EReal) :=
  if_neg (not_lt.mpr h)

/-- Every quotient of a row by its length is a real number. -/
theorem quotient_real (x : Fin 64 → EReal) (d : Fin 64) : ∃ r : ℝ, Ideal.div (x d) (len x) = (r : EReal) := by
  obtain ⟨e, he, hee⟩ := eps_real
  by_cases h : ∃ c, x c = ⊤ ∨ x c = ⊥
  · obtain ⟨c, hc⟩ := h
    have hnn : ∀ b ∈ (Finset.univ : Finset (Fin 64)), 0 ≤ x b * x b := fun b _ => by
      rcases le_total 0 (x b) with h | h
      · exact mul_nonneg h h
      · exact EReal.mul_nonneg_iff.mpr (.inr ⟨h, h⟩)
    have htop : ∑ b, x b * x b = ⊤ := by
      refine top_le_iff.mp (le_trans ?_ (Finset.single_le_sum hnn (Finset.mem_univ c)))
      rcases hc with hc | hc <;> rw [hc] <;> simp
    refine ⟨0, ?_⟩
    have : len x = ⊤ := by rw [len, htop, hee]; rfl
    rw [this, Ideal.div, if_neg (by simp)]; simp
  · simp only [not_exists, not_or] at h
    have hy : ∀ b, x b = ((x b).toReal : EReal) := fun b => (EReal.coe_toReal (h b).1 (h b).2).symm
    have hs : ∑ b, x b * x b = ((∑ b, (x b).toReal * (x b).toReal : ℝ) : EReal) := by
      rw [coe_sum]
      exact Finset.sum_congr rfl fun b _ => by rw [EReal.coe_mul, ← hy b]
    have h0 : (0 : ℝ) ≤ ∑ b, (x b).toReal * (x b).toReal := Finset.sum_nonneg fun b _ => mul_self_nonneg _
    have hl : len x = ((Real.sqrt (∑ b, (x b).toReal * (x b).toReal) + e : ℝ) : EReal) := by
      rw [len, hs, hee, sqrt_coe h0, EReal.coe_add]
    have hp : (0 : ℝ) < Real.sqrt (∑ b, (x b).toReal * (x b).toReal) + e := by positivity
    refine ⟨(x d).toReal * (Real.sqrt (∑ b, (x b).toReal * (x b).toReal) + e)⁻¹, ?_⟩
    rw [hl, Ideal.div, if_neg (by exact_mod_cast hp.ne'), EReal.coe_mul, EReal.coe_inv, ← hy d]

/-- The cosine of any two rows is a real number. -/
theorem cosine_real (x y : Fin 64 → EReal) : ∃ r : ℝ, cosine x y = (r : EReal) := by
  choose f hf using quotient_real x
  choose g hg using quotient_real y
  refine ⟨∑ d, f d * g d, ?_⟩
  rw [cosine, coe_sum]
  exact Finset.sum_congr rfl fun d _ => by rw [hf, hg, EReal.coe_mul]

/-- One over the temperature (the f32 number nearest a tenth). -/
def invTemp : ℝ := 134217728 / 13421773

/-- The similarities of a token to the 512 prototypes: the cosines over the temperature. -/
def sims (x : Fin 64 → EReal) (p : Fin 512 → Fin 64 → EReal) (k : Fin 512) : EReal := cosine x (p k) * (invTemp : EReal)

theorem sims_real (x : Fin 64 → EReal) (p : Fin 512 → Fin 64 → EReal) (k : Fin 512) : ∃ r : ℝ, sims x p k = (r : EReal) := by
  obtain ⟨r, hr⟩ := cosine_real x (p k)
  exact ⟨r * invTemp, by rw [sims, hr, EReal.coe_mul]⟩

/-- Two similarities are ordered as their cosines are. -/
theorem sims_lt (x : Fin 64 → EReal) (p : Fin 512 → Fin 64 → EReal) (k k' : Fin 512) :
    sims x p k < sims x p k' ↔ cosine x (p k) < cosine x (p k') := by
  obtain ⟨r, hr⟩ := cosine_real x (p k)
  obtain ⟨r', hr'⟩ := cosine_real x (p k')
  rw [sims, sims, hr, hr', ← EReal.coe_mul, ← EReal.coe_mul, EReal.coe_lt_coe_iff, EReal.coe_lt_coe_iff]
  exact mul_lt_mul_iff_left₀ (by norm_num [invTemp])

theorem negInf : Ideal.ofBits .f32 0xFF800000#32 = ⊥ := by
  simp [Ideal.ofBits, Ideal.ieee]

/-- The temperature. -/
theorem temp : Ideal.ofBits .f32 0x3DCCCCCD#32 = ((invTemp⁻¹ : ℝ) : EReal) := by
  simp [Ideal.ofBits, Ideal.ieee, invTemp, -EReal.coe_mul]; norm_num

/-- Dividing a cosine by the temperature gives the similarity. -/
theorem cosine_div_temp (x : Fin 64 → EReal) (p : Fin 512 → Fin 64 → EReal) (k : Fin 512) :
    Ideal.div (cosine x (p k)) (Ideal.ofBits .f32 0x3DCCCCCD#32) = sims x p k := by
  rw [temp, Ideal.div, if_neg (by norm_num [invTemp]), sims, ← EReal.coe_inv, inv_inv]

end Cert.Row

end
-- ==== Proof.Choice.lean ====
/- The choice of the eight greatest similarities: repeated "greatest entry below the last one" finds the eighth greatest
   when the nine greatest are different numbers, and the weighted mean over the entries at least as great as it is the
   weighted sum over the eight, the weights divided by their sum first. -/
module

public import proofs.«01_k».proof.Proof.Row

@[expose] public section

noncomputable section

namespace Cert.Row

open Idealize.ShloMosaic

/-- The greatest entry, −∞ included. -/
def top (s : Fin 512 → EReal) : EReal := Finset.univ.fold max ⊥ s

/-- The greatest entry below `m`, or −∞. -/
def next (s : Fin 512 → EReal) (m : EReal) : EReal := Finset.univ.fold max ⊥ fun k => if s k < m then s k else ⊥

/-- The eighth of the different entries, from the greatest down. -/
def eighth (s : Fin 512 → EReal) : EReal := (next s)^[7] (top s)

/-- The weight of an entry: zero below the eighth, else the exponential of its distance to the greatest. -/
def weight (s : Fin 512 → EReal) (k : Fin 512) : EReal := if eighth s ≤ s k then Ideal.exp (s k - top s) else 0

/-- The weighted mean of `q`. -/
def mean (s q : Fin 512 → EReal) : EReal := Ideal.div (∑ k, weight s k * q k) (∑ k, weight s k)

/-- `σ` names the nine greatest entries in falling order, and they are nine different numbers. -/
structure Ranked (s : Fin 512 → EReal) (σ : Fin 9 → Fin 512) : Prop where
  falls : ∀ i j, i < j → s (σ j) < s (σ i)
  rest : ∀ k, (∃ r, σ r = k) ∨ s k ≤ s (σ 8)

variable {s : Fin 512 → EReal} {σ : Fin 9 → Fin 512}

theorem Ranked.le (h : Ranked s σ) {i j : Fin 9} (hij : i ≤ j) : s (σ j) ≤ s (σ i) := by
  rcases hij.lt_or_eq with h' | rfl
  · exact (h.falls i j h').le
  · exact le_rfl

theorem Ranked.le_of_lt (h : Ranked s σ) {i j : Fin 9} (hl : s (σ j) < s (σ i)) : i < j :=
  not_le.mp fun h' => absurd (h.le h') (not_le.mpr hl)

theorem Ranked.top_eq (h : Ranked s σ) : top s = s (σ 0) := by
  refine le_antisymm ((Finset.fold_max_le _).mpr ⟨bot_le, fun k _ => ?_⟩) ((Finset.le_fold_max _).mpr (.inr ⟨σ 0, Finset.mem_univ _, le_rfl⟩))
  rcases h.rest k with ⟨r, rfl⟩ | h'
  · exact h.le (Fin.zero_le r)
  · exact h'.trans (h.le (Fin.zero_le 8))

theorem Ranked.next_eq (h : Ranked s σ) (r : Fin 8) : next s (s (σ r.castSucc)) = s (σ r.succ) := by
  refine le_antisymm ((Finset.fold_max_le _).mpr ⟨bot_le, fun k _ => ?_⟩) ((Finset.le_fold_max _).mpr (.inr ⟨σ r.succ, Finset.mem_univ _, ?_⟩))
  · split
    · next hk =>
      rcases h.rest k with ⟨t, rfl⟩ | h'
      · exact h.le (Fin.castSucc_lt_iff_succ_le.mp (h.le_of_lt hk))
      · exact h'.trans (h.le (Fin.le_last _))
    · exact bot_le
  · rw [if_pos (h.falls _ _ (Fin.castSucc_lt_succ))]

theorem Ranked.eighth_eq (h : Ranked s σ) : eighth s = s (σ 7) := by
  have e := h.next_eq
  show next s (next s (next s (next s (next s (next s (next s (top s))))))) = _
  rw [h.top_eq]
  exact (congrArg _ (congrArg _ (congrArg _ (congrArg _ (congrArg _ (congrArg _ (e 0))))))).trans <|
    (congrArg _ (congrArg _ (congrArg _ (congrArg _ (congrArg _ (e 1)))))).trans <|
    (congrArg _ (congrArg _ (congrArg _ (congrArg _ (e 2))))).trans <|
    (congrArg _ (congrArg _ (congrArg _ (e 3)))).trans <| (congrArg _ (congrArg _ (e 4))).trans <|
    (congrArg _ (e 5)).trans (e 6)

theorem Ranked.eighth_le_iff (h : Ranked s σ) (k : Fin 512) : eighth s ≤ s k ↔ ∃ r : Fin 8, σ r.castSucc = k := by
  rw [h.eighth_eq]
  constructor
  · intro hk
    have h8 : s (σ 8) < s k := lt_of_lt_of_le (h.falls 7 8 (by decide)) hk
    rcases h.rest k with ⟨t, rfl⟩ | h'
    · have ht : t < 8 := h.le_of_lt h8
      exact ⟨⟨t.val, ht⟩, rfl⟩
    · exact absurd h' (not_le.mpr h8)
  · rintro ⟨r, rfl⟩
    exact h.le (show r.castSucc ≤ 7 from Fin.le_def.mpr (Nat.le_of_lt_succ r.isLt))

theorem Ranked.injective (h : Ranked s σ) : Function.Injective fun r : Fin 8 => σ r.castSucc := fun i j e => by
  rcases lt_trichotomy i j with h' | h' | h'
  · exact absurd (congrArg s e) (h.falls _ _ (Fin.castSucc_lt_castSucc_iff.mpr h')).ne'
  · exact h'
  · exact absurd (congrArg s e) (h.falls _ _ (Fin.castSucc_lt_castSucc_iff.mpr h')).ne

/-- A sum of terms carrying the weights is a sum over the eight. -/
theorem Ranked.sum_eq (h : Ranked s σ) (f : Fin 512 → EReal → EReal) (hf : ∀ k, f k 0 = 0) :
    ∑ k, f k (weight s k) = ∑ r : Fin 8, f (σ r.castSucc) (Ideal.exp (s (σ r.castSucc) - s (σ 0))) := by
  refine (Fintype.sum_of_injective _ h.injective _ _ (fun k hk => ?_) fun r => ?_).symm
  · have : ¬ eighth s ≤ s k := fun h' => hk ((h.eighth_le_iff k).mp h')
    rw [weight, if_neg this, hf]
  · rw [weight, if_pos ((h.eighth_le_iff _).mpr ⟨r, rfl⟩), h.top_eq]

/-- Multiplying by a non-negative real goes into a sum. -/
theorem sum_mul {ι : Type} (t : Finset ι) (f : ι → EReal) {c : ℝ} (hc : 0 ≤ c) :
    (∑ i ∈ t, f i) * (c : EReal) = ∑ i ∈ t, f i * (c : EReal) := by
  classical
  induction t using Finset.induction_on with
  | empty => simp
  | insert a t ha ih =>
    rw [Finset.sum_insert ha, Finset.sum_insert ha,
      EReal.right_distrib_of_nonneg_of_ne_top (EReal.coe_nonneg.mpr hc) (EReal.coe_ne_top c), ih]

/-- The weighted mean is the sum over the eight of their weights, each divided by the weights' sum, times `q`. -/
theorem Ranked.mean_eq (h : Ranked s σ) (hs : ∀ k, ∃ r : ℝ, s k = (r : EReal)) (q : Fin 512 → EReal) :
    mean s q = ∑ r : Fin 8, Ideal.div (Ideal.exp (s (σ r.castSucc) - s (σ 0)))
      (∑ r : Fin 8, Ideal.exp (s (σ r.castSucc) - s (σ 0))) * q (σ r.castSucc) := by
  choose v hv using hs
  have he : ∀ r : Fin 8, Ideal.exp (s (σ r.castSucc) - s (σ 0)) = ((Real.exp (v (σ r.castSucc) - v (σ 0)) : ℝ) : EReal) := fun r => by
    rw [hv, hv, ← EReal.coe_sub]; rfl
  have hS : 0 < ∑ r : Fin 8, Real.exp (v (σ r.castSucc) - v (σ 0)) :=
    Finset.sum_pos (fun r _ => Real.exp_pos _) Finset.univ_nonempty
  have hd : ∀ x : EReal, Ideal.div x (∑ r : Fin 8, Ideal.exp (s (σ r.castSucc) - s (σ 0)))
      = x * (((∑ r : Fin 8, Real.exp (v (σ r.castSucc) - v (σ 0)))⁻¹ : ℝ) : EReal) := fun x => by
    simp only [he]
    rw [← coe_sum, Ideal.div, if_neg (by exact_mod_cast hS.ne'), EReal.coe_inv]
  rw [mean, h.sum_eq (fun k w => w * q k) fun k => zero_mul _, h.sum_eq (fun _ w => w) fun _ => rfl, hd,
    sum_mul _ _ (inv_nonneg.mpr hS.le)]
  refine Finset.sum_congr rfl fun r _ => ?_
  rw [hd, mul_right_comm]

end Cert.Row

end
-- ==== Proof.Block.lean ====
/- What the body computes from one block: at row `50 a + b` of its flattened table, the similarities of token `(a, b)`; by
   rounds of "greatest entry below the last one", the eighth greatest; and the weighted mean of the prototypes. -/
module

public import proofs.«01_k».proof.Proof.Gen.KernelIdeal.Frame
public import proofs.«01_k».proof.Proof.Choice
public import Idealize.ShloMosaic.Lib.Pointwise

@[expose] public section

noncomputable section

namespace Cert.Block

open Idealize.ShloMosaic Cert.KernelIdeal Cert.KernelIdeal.Gen Cert.Row

theorem inv_temp : (Named.named κ "inv_temp" 0x41200000#32 : Ideal .f32) = (invTemp : EReal) :=
  IdealRules.named_const.ideal_named_scalar _ _ _ _ rfl

/-- The prototypes as rows. -/
def protos (v1 : Vec Ideal S512x64 .f32) (k : Fin 512) (d : Fin 64) : EReal := v1 (ix2 k d)

set_option maxRecDepth 16384 in
/-- The table of similarities. -/
theorem sims_apply (v0 : Vec Ideal S128x50x64 .f32) (v1 : Vec Ideal S512x64 .f32) (r : Fin 6400) (k : Fin 512) :
    k0_pay1 v0 v1 (ix2 r k)
      = sims (fun d => v0 (ix3 ⟨r.val / 50, by omega⟩ ⟨r.val % 50, by omega⟩ d)) (protos v1) k := by
  pointwise [k0_pay1]
  rw [inv_temp]
  rfl

/-- Token `(a, b)` of a block as a row of the table. -/
def flat (a : Fin 128) (b : Fin 50) : Fin 6400 := ⟨a.val * 50 + b.val, by omega⟩

/-- A row of the table, by the token. -/
theorem table_row (v0 : Vec Ideal S128x50x64 .f32) (v1 : Vec Ideal S512x64 .f32) (a : Fin 128) (b : Fin 50) :
    (fun k => k0_pay1 v0 v1 (ix2 (flat a b) k)) = sims (fun d => v0 (ix3 a b d)) (protos v1) := by
  funext k
  rw [sims_apply]
  have ha : (⟨(flat a b).val / 50, by have := (flat a b).isLt; omega⟩ : Fin 128) = a := Fin.ext (by show (a.val * 50 + b.val) / 50 = _; omega)
  have hb : (⟨(flat a b).val % 50, by omega⟩ : Fin 50) = b := Fin.ext (by show (a.val * 50 + b.val) % 50 = _; omega)
  rw [ha, hb]

set_option maxRecDepth 16384 in
/-- The similarities as stored. -/
theorem stored_sims (v0 : Vec Ideal S128x50x64 .f32) (v1 : Vec Ideal S512x64 .f32) (a : Fin 128) (b : Fin 50) (k : Fin 512) :
    k0_pay2 v0 v1 (ix3 a b k) = sims (fun d => v0 (ix3 a b d)) (protos v1) k := by
  rw [← table_row v0 v1 a b]
  pointwise [k0_pay2]
  rfl

/-- One round over the table: in each row the greatest entry below `m`. -/
def round (t : FVec Ideal S6400x512 .f32) (m : FVec Ideal S6400x1 .f32) : FVec Ideal S6400 .f32 :=
  multiReduction .maximumf [1] S6400
    (select (cmpf .olt t (broadcastTo S6400x512 m broadcasts_S6400x1_S6400x512)) t
      (broadcast S6400x512 (Scalar.ofBits .f32 0xFF800000#32))) 0xFF800000#32 reduces_S6400x512_S6400 (.inl rfl) rfl

/-- A column of row values. -/
def col (m : FVec Ideal S6400 .f32) : FVec Ideal S6400x1 .f32 := shapeCast S6400x1 m shapeCasts_S6400_S6400x1

set_option maxRecDepth 16384 in
theorem round_apply (t : FVec Ideal S6400x512 .f32) (m : FVec Ideal S6400x1 .f32) (r : Fin 6400) :
    round t m (ix1 r) = next (fun k => t (ix2 r k)) (m (ix2 r 0)) := by
  pointwise [round]
  rw [negInf]
  rfl

theorem col_apply (m : FVec Ideal S6400 .f32) (r : Fin 6400) : col m (ix2 r 0) = m (ix1 r) := by
  pointwise [col]

set_option maxRecDepth 16384 in
theorem top_apply (v0 : Vec Ideal S128x50x64 .f32) (v1 : Vec Ideal S512x64 .f32) (r : Fin 6400) :
    k0_pay3 v0 v1 (ix2 r 0) = top fun k => k0_pay1 v0 v1 (ix2 r k) := by
  pointwise [k0_pay3]
  rw [negInf]
  rfl

theorem third_eq (v0 : Vec Ideal S128x50x64 .f32) (v1 : Vec Ideal S512x64 .f32) :
    k0_pay4 v0 v1 = round (k0_pay1 v0 v1) (col (round (k0_pay1 v0 v1) (k0_pay3 v0 v1))) := rfl

/-- The weights over the table, from the eighth greatest and the greatest of each row. -/
def weights (t : FVec Ideal S6400x512 .f32) (e m : FVec Ideal S6400x1 .f32) : FVec Ideal S6400x512 .f32 :=
  select (cmpf .oge t (broadcastTo S6400x512 e broadcasts_S6400x1_S6400x512))
    (exp (subf t (broadcastTo S6400x512 m broadcasts_S6400x1_S6400x512)))
    (broadcast S6400x512 (Scalar.ofBits .f32 0x00000000#32))

/-- The weighted means over the table. -/
def means (v1 : Vec Ideal S512x64 .f32) (w : FVec Ideal S6400x512 .f32) : FVec Ideal S128x50x64 .f32 :=
  shapeCast S128x50x64 (divf
    (matmul (φ₂ := .f32) dot_S6400x512_S512x64_S6400x64_1_0_0_1_n_n none w v1 (constant S6400x64 .f32 0x00000000#32))
    (broadcastTo S6400x64 (col (multiReduction .add [1] S6400 w 0x00000000#32 reduces_S6400x512_S6400 (.inl rfl) rfl))
      broadcasts_S6400x1_S6400x64)) shapeCasts_S6400x64_S128x50x64

set_option maxRecDepth 65536 in
theorem pay5_eq (v1 : Vec Ideal S512x64 .f32) (t : FVec Ideal S6400x512 .f32) (m : FVec Ideal S6400x1 .f32) (n : FVec Ideal S6400 .f32) :
    k0_pay5 v1 t m n = means v1 (weights t (col (round t (col (round t (col (round t (col (round t (col (round t (col n)))))))))))  m) := rfl

set_option maxRecDepth 16384 in
theorem weights_apply (t : FVec Ideal S6400x512 .f32) (e m : FVec Ideal S6400x1 .f32) (r : Fin 6400) (k : Fin 512) :
    weights t e m (ix2 r k) = if e (ix2 r 0) ≤ t (ix2 r k) then Ideal.exp (t (ix2 r k) - m (ix2 r 0)) else 0 := by
  pointwise [weights]

set_option maxRecDepth 16384 in
theorem means_apply (v1 : Vec Ideal S512x64 .f32) (w : FVec Ideal S6400x512 .f32) (a : Fin 128) (b : Fin 50) (d : Fin 64) :
    means v1 w (ix3 a b d)
      = Ideal.div (∑ k, w (ix2 (flat a b) k) * protos v1 k d) (∑ k, w (ix2 (flat a b) k)) := by
  pointwise [means, col]
  rfl

/-- The assignment as stored: the weighted mean of the prototypes. -/
theorem stored_mean (v0 : Vec Ideal S128x50x64 .f32) (v1 : Vec Ideal S512x64 .f32) (a : Fin 128) (b : Fin 50) (d : Fin 64) :
    k0_pay5 v1 (k0_pay1 v0 v1) (k0_pay3 v0 v1) (k0_pay4 v0 v1) (ix3 a b d)
      = mean (sims (fun d => v0 (ix3 a b d)) (protos v1)) fun k => protos v1 k d := by
  rw [pay5_eq, means_apply, third_eq, ← table_row v0 v1 a b]
  simp only [weights_apply, col_apply, round_apply, top_apply]
  rfl

end Cert.Block

end
-- ==== Proof.Arrays.lean ====
/- What the kernel's two result arrays hold at the end: each grid point handles 128 batch entries, so token `(i, b)` is token
   `(i mod 128, b)` of point `i / 128`. -/
module

public import proofs.«01_k».proof.Proof.Block
public import Idealize.ShloMosaic.Lib.Pipeline.ValueKit

@[expose] public section

noncomputable section

namespace Cert.Arrays

open Idealize.ShloMosaic Idealize.ShloMosaic.TcCoe Cert.KernelIdeal Cert.KernelIdeal.Gen Cert.Row Cert.Block
open Idealize.SL Idealize.SL.Sem

variable (m : (ℓ : Loc nD τ sig) → Buf (Elt Ideal) ℓ) (c : Dev nD)

/-- The tokens and the prototypes of a pair of argument arrays. -/
def token (x : Vec Ideal S4096x50x64 .f32) (i : Fin 4096) (b : Fin 50) : Fin 64 → EReal := fun d => x (ix3 i b d)

/-- The similarities of every token. -/
def simOf (x : Vec Ideal S4096x50x64 .f32) (y : Vec Ideal S512x64 .f32) : Vec Ideal S4096x50x512 .f32 :=
  fun i => sims (token x (i 0) (i 1)) (protos y) (i 2)

/-- The weighted mean of the prototypes of every token. -/
def outOf (x : Vec Ideal S4096x50x64 .f32) (y : Vec Ideal S512x64 .f32) : Vec Ideal S4096x50x64 .f32 :=
  fun i => mean (sims (token x (i 0) (i 1)) (protos y)) fun k => protos y k (i 2)

theorem zero3 : (![0, 0, 0] : Fin 3 → Nat) = fun _ => 0 := funext fun a => by fin_cases a <;> rfl
theorem zero2 : (![0, 0] : Fin 2 → Nat) = fun _ => 0 := funext fun a => by fin_cases a <;> rfl

theorem at0 : ∀ t : Fin cfg0.N, win0_0.index t = ![t.val, 0, 0] := by decide +kernel
theorem at1 : ∀ t : Fin cfg0.N, win0_1.index t = ![0, 0] := by decide +kernel
theorem at2 : ∀ t : Fin cfg0.N, win0_2.index t = ![t.val, 0, 0] := by decide +kernel
theorem at3 : ∀ t : Fin cfg0.N, win0_3.index t = ![t.val, 0, 0] := by decide +kernel

/-- The tokens of a point's block. -/
theorem iblk0 (t : Fin cfg0.N) (a : Fin 128) (b : Fin 50) (h : t.val * 128 + a.val < 4096) :
    (fun d => iblk m c 0 t (ix3 a b d)) = token (m ((c : Thread nD τ).loc main_arg0)) ⟨t.val * 128 + a.val, h⟩ b := by
  funext d
  unfold token iblk
  blk_ext [V, at0]

/-- Every point sees all prototypes. -/
theorem iblk1 (t : Fin cfg0.N) : protos (iblk m c 1 t) = protos (m ((c : Thread nD τ).loc main_arg1)) := by
  funext k d
  unfold protos iblk
  blk_ext [V, at1]

/-- The similarities a point computes are those of its tokens. -/
theorem point_sims (t : Fin cfg0.N) (a : Fin 128) (b : Fin 50) (h : t.val * 128 + a.val < 4096) :
    sims (fun d => iblk m c 0 t (ix3 a b d)) (protos (iblk m c 1 t))
      = sims (token (m ((c : Thread nD τ).loc main_arg0)) ⟨t.val * 128 + a.val, h⟩ b)
          (protos (m ((c : Thread nD τ).loc main_arg1))) := by
  rw [iblk0 m c t a b h, iblk1 m c t]

/-- What a point writes to the first result is its block of the similarities. -/
theorem flushed2 (t : Fin cfg0.N) : (dats m 0 c).flushed 2 t
    = ((cfg0.win 2).blk t).view.read (Elt Ideal)
        (simOf (m ((c : Thread nD τ).loc main_arg0)) (m ((c : Thread nD τ).loc main_arg1))) := by
  show (cfg0.win 2).cut (grid0.coords t) ((dats m 0 c).after 2 t) = _
  rw [after0_2]
  unfold out0_2
  rw [View.canon_unit_zero zero3, View.ld_unit_zero zero3, View.ld_unit_zero zero2]
  have ht : t.val < 32 := t.isLt
  funext y
  obtain ⟨a, b, k, rfl⟩ : ∃ (a : Fin 128) (b : Fin 50) (k : Fin 512), y = ix3 a b k := ⟨y 0, y 1, y 2, eq_ix3 y⟩
  have h : t.val * 128 + a.val < 4096 := by omega
  have e : ((cfg0.win 2).blk t).view.emb (ix3 a b k) = (ix3 ⟨t.val * 128 + a.val, h⟩ b k : S4096x50x512.Idx) := by
    blk_ext [at2]
  refine (stored_sims _ _ a b k).trans ?_
  rw [point_sims m c t a b h]
  exact (congrArg (simOf (m ((c : Thread nD τ).loc main_arg0)) (m ((c : Thread nD τ).loc main_arg1))) e).symm

/-- What a point writes to the second result is its block of the means. -/
theorem flushed3 (t : Fin cfg0.N) : (dats m 0 c).flushed 3 t
    = ((cfg0.win 3).blk t).view.read (Elt Ideal)
        (outOf (m ((c : Thread nD τ).loc main_arg0)) (m ((c : Thread nD τ).loc main_arg1))) := by
  show (cfg0.win 3).cut (grid0.coords t) ((dats m 0 c).after 3 t) = _
  rw [after0_3]
  unfold out0_3
  rw [View.canon_unit_zero zero3, View.ld_unit_zero zero2, View.ld_unit_zero zero3]
  have ht : t.val < 32 := t.isLt
  funext y
  obtain ⟨a, b, d, rfl⟩ : ∃ (a : Fin 128) (b : Fin 50) (d : Fin 64), y = ix3 a b d := ⟨y 0, y 1, y 2, eq_ix3 y⟩
  have h : t.val * 128 + a.val < 4096 := by omega
  have e : ((cfg0.win 3).blk t).view.emb (ix3 a b d) = (ix3 ⟨t.val * 128 + a.val, h⟩ b d : S4096x50x64.Idx) := by
    blk_ext [at3]
  refine (stored_mean _ _ a b d).trans ?_
  rw [point_sims m c t a b h, iblk1 m c t]
  exact (congrArg (outOf (m ((c : Thread nD τ).loc main_arg0)) (m ((c : Thread nD τ).loc main_arg1))) e).symm

/-- The grid point of a batch entry. -/
def pointOf (i : Fin 4096) : Fin cfg0.N := ⟨i.val / 128, by show i.val / 128 < 32; omega⟩

theorem covered2 (i : S4096x50x512.Idx) : i ∈ ((cfg0.win 2).blk (pointOf (i 0))).view.set := by
  have h0 : (i 0).val < 4096 := (i 0).isLt
  have h1 : (i 1).val < 50 := (i 1).isLt
  have h2 : (i 2).val < 512 := (i 2).isLt
  have ht : (pointOf (i 0)).val = (i 0).val / 128 := rfl
  generalize pointOf (i 0) = t at ht ⊢
  mem_blk [at2]
  omega

theorem covered3 (i : S4096x50x64.Idx) : i ∈ ((cfg0.win 3).blk (pointOf (i 0))).view.set := by
  have h0 : (i 0).val < 4096 := (i 0).isLt
  have h1 : (i 1).val < 50 := (i 1).isLt
  have h2 : (i 2).val < 64 := (i 2).isLt
  have ht : (pointOf (i 0)).val = (i 0).val / 128 := rfl
  generalize pointOf (i 0) = t at ht ⊢
  mem_blk [at3]
  omega

/-- The first result array at the end. -/
theorem final2 : (dats m 0 c).arrAt 2 cfg0.N
    = simOf (m ((c : Thread nD τ).loc main_arg0)) (m ((c : Thread nD τ).loc main_arg1)) :=
  (dats m 0 c).arrAt_eq_of_cover 2 _ (fun t _ => flushed2 m c t) fun i => ⟨pointOf (i 0), flush0_2 _, covered2 i⟩

/-- The second result array at the end. -/
theorem final3 : (dats m 0 c).arrAt 3 cfg0.N
    = outOf (m ((c : Thread nD τ).loc main_arg0)) (m ((c : Thread nD τ).loc main_arg1)) :=
  (dats m 0 c).arrAt_eq_of_cover 3 _ (fun t _ => flushed3 m c t) fun i => ⟨pointOf (i 0), flush0_3 _, covered3 i⟩

variable (ρ : Dev nD → PrngReg)

/-- The kernel ends with the two arrays at these values and its arguments as they were. -/
theorem run : θ_run defs (onTc (τ := τ) (main (F := Ideal))) ⟨m, fun _ => 0, ρ⟩ fun r => ∀ c : Dev nD,
      r.2.mem ((c : Thread nD τ).loc main_v0_0)
        = simOf (m ((c : Thread nD τ).loc main_arg0)) (m ((c : Thread nD τ).loc main_arg1))
      ∧ r.2.mem ((c : Thread nD τ).loc main_v0_1)
        = outOf (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 2).trans (final2 m c), ((h c).1 3).trans (final3 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Arrays
-- ==== Proof.Order.lean ====
/- The positions a top-k lists: the entries of a row in falling order, as a permutation of the 512 positions. -/
module

public import proofs.«01_k».proof.Proof.Choice
public import Idealize.ShloMosaic.Lib.SortFacts
public import Idealize.ShloMosaic.Lib.Pointwise

@[expose] public section

noncomputable section

namespace Cert.Row

open Idealize.ShloMosaic

/-- The positions of a row in falling order of its entries, equal entries by position. -/
def order (s : Fin 512 → EReal) : Fin 512 → Fin 512 := sortedFrom fun k k' => decide (s k' < s k)

/-- Rows whose entries compare alike have one order. -/
theorem order_congr {s s' : Fin 512 → EReal} (h : ∀ k k', s k < s k' ↔ s' k < s' k') : order s = order s' :=
  sortedFrom_congr _ _ fun k k' _ => decide_eq_decide.mpr (h k' k)

theorem order_le (s : Fin 512 → EReal) {i j : Fin 512} (h : i < j) : s (order s j) ≤ s (order s i) := by
  have := sortedFrom_noInversion (fun k k' : Fin 512 => decide (s k' < s k)) (fun k k' => decide (s k' < s k))
    (fun a b hab => decide_eq_false (not_lt.mpr (of_decide_eq_true hab).le)) (fun _ _ h => h)
    (fun a b c hab hbc => decide_eq_false (not_lt.mpr ((not_lt.mp (of_decide_eq_false hab)).trans (not_lt.mp (of_decide_eq_false hbc))))) i j h
  exact not_lt.mp (of_decide_eq_false this)

/-- Position `r` of nine as a position of the row. -/
def lead (r : Fin 9) : Fin 512 := ⟨r.val, by omega⟩

/-- If the first nine entries in order fall strictly, they rank the row. -/
theorem ranked_of_order (s : Fin 512 → EReal)
    (h : ∀ r : Fin 8, s (order s (lead r.succ)) < s (order s (lead r.castSucc))) : Ranked s fun r => order s (lead r) where
  falls := by
    have : StrictAnti fun r => s (order s (lead r)) := Fin.strictAnti_iff_succ_lt.mpr h
    exact fun i j hij => this hij
  rest k := by
    obtain ⟨j, rfl⟩ := sortedFrom_surjective (fun k k' : Fin 512 => decide (s k' < s k)) k
    rcases lt_trichotomy j (lead 8) with h' | h' | h'
    · exact .inl ⟨⟨j.val, lt_trans (Fin.lt_def.mp h') (by decide)⟩, rfl⟩
    · exact .inl ⟨8, by rw [h']; rfl⟩
    · exact .inr (order_le s h')

/-- Index `k` of row `(a, b)`. -/
theorem along_ix3 {A B n : Nat} (a : Fin A) (b : Fin B) (c k : Fin n) :
    Shape.Idx.along (s := ⟨3, ![A, B, n]⟩) (ix3 a b c) 2 k = ix3 a b k := by
  funext d
  fin_cases d <;> rfl

/-- "Greater", as a top-k compares. -/
theorem gt_eq (u v : Ideal .f32) : (FloatOps.cmpfTotal CmpDirection.gt u v == 1#1) = decide (v < u) := by
  show (BitVec.ofBool (decide (v < u)) == 1#1) = _
  cases decide (v < u) <;> rfl

/-- What a top-k of the last axis puts at `(a, b, r)`: the row's entry at position `r` of its order, and that position. -/
theorem topK_apply {n : Nat} (hn : n ≤ 512) (x : FVec Ideal ⟨3, ![4096, 50, 512]⟩ .f32)
    (h : (⟨3, ![4096, 50, 512]⟩ : Shape).Slices (fun _ => 0) ⟨3, ![4096, 50, n]⟩) (a : Fin 4096) (b : Fin 50) (r : Fin n) :
    (Host.topK ⟨3, ![4096, 50, n]⟩ 2 (FloatOps.cmpfTotal .gt) x h).1 (ix3 a b r)
        = x (ix3 a b (order (fun k => x (ix3 a b k)) ⟨r.val, r.isLt.trans_le hn⟩))
      ∧ (Host.topK ⟨3, ![4096, 50, n]⟩ 2 (FloatOps.cmpfTotal .gt) x h).2 (ix3 a b r)
        = BitVec.ofNat 32 (order (fun k => x (ix3 a b k)) ⟨r.val, r.isLt.trans_le hn⟩).val := by
  constructor
  · pointwise [Host.topK, Host.sort2]
    simp only [along_ix3, gt_eq]
    rfl
  · pointwise [Host.topK, Host.sort2]
    simp only [along_ix3, gt_eq]
    rfl

end Cert.Row

end
-- ==== Proof.Mask.lean ====
/- Where the mask is set, the nine greatest similarities of the token are strictly falling. -/
module

public import proofs.«01_k».proof.Proof.Arrays
public import proofs.«01_k».proof.Proof.Order
public import proofs.«01_k».proof.Proof.Gen.On_untied
public import Idealize.ShloMosaic.Lib.StableHlo.Predicate

@[expose] public section

noncomputable section

namespace Cert.Mask

open Idealize.ShloMosaic Cert.On_untied Cert.On_untied.Facts Cert.Row Cert.Block Cert.Arrays

attribute [local instance] Cert.On_untied.Gen.facts

/-- The cosines as the mask computes them. -/
def cosines (x : FVec Ideal S4096x50x64 .f32) (y : FVec Ideal S512x64 .f32) : FVec Ideal S4096x50x512 .f32 :=
  Host.dotGeneral dot_S4096x50x64_S512x64_S4096x50x512_2_1_01_0_n_n none
    (Host.divf x (broadcastInDim S4096x50x64 ![0, 1, 2] bcast_S4096x50x1_S4096x50x64_0_1_2
      (addf (fn_norm x) (broadcastInDim S4096x50x1 ![] bcast_S_S4096x50x1 (constant S_ .f32 0x33D6BF95#32)))))
    (Host.divf y (broadcastInDim S512x64 ![0, 1] bcast_S512x1_S512x64_0_1
      (addf (fn_norm_0 y) (broadcastInDim S512x1 ![] bcast_S_S512x1 (constant S_ .f32 0x33D6BF95#32)))))

set_option maxRecDepth 16384 in
theorem cosines_apply (x : FVec Ideal S4096x50x64 .f32) (y : FVec Ideal S512x64 .f32) (i : Fin 4096) (b : Fin 50) (k : Fin 512) :
    cosines x y (ix3 i b k) = cosine (token x i b) (protos y k) := by
  pointwise [cosines, fn_norm, fn_norm_0]
  rfl

def nine (x : FVec Ideal S4096x50x512 .f32) : FVec Ideal S4096x50x9 .f32 :=
  (Host.topK S4096x50x9 2 (FloatOps.cmpfTotal .gt) x sliceFits_S4096x50x512_S4096x50x9).1

/-- The mask, from the nine greatest. -/
def falls (v : FVec Ideal S4096x50x9 .f32) : IVec S4096x50x64 1 :=
  broadcastInDim S4096x50x64 ![0, 1, 2] bcast_S4096x50x1_S4096x50x64_0_1_2
    (broadcastInDim S4096x50x1 ![0, 1] bcast_S4096x50_S4096x50x1_0_1
      (Host.reduce IntOp.andi (cmpf .olt (extractStridedSlice S4096x50x8 ![0, 0, 1] v slices_S4096x50x9_S4096x50x8_0_0_1)
        (extractStridedSlice S4096x50x8 ![0, 0, 0] v slices_S4096x50x9_S4096x50x8_0_0_0)) (constantI S_ 1 1#1)
        reducesTo_S4096x50x8_S4096x50_d2 h_S_))

set_option maxRecDepth 65536 in
theorem fn_eq (x : FVec Ideal S4096x50x64 .f32) (y : FVec Ideal S512x64 .f32) : (fn x y).1 = falls (nine (cosines x y)) := by
  unfold fn falls nine cosines
  dsimp only

/-- A conjunction of bits is set only if each is. -/
theorem all_set (f : Fin 8 → BitVec 1) : ∀ t : Finset (Fin 8), Finset.fold IntOp.andi 1#1 f t = 1#1 → ∀ r ∈ t, f r = 1#1 := by
  have both : ∀ u v : BitVec 1, IntOp.andi u v = 1#1 → u = 1#1 ∧ v = 1#1 := by decide
  intro t
  induction t using Finset.induction_on with
  | empty => exact fun _ r hr => absurd hr (Finset.notMem_empty r)
  | insert a t ha ih =>
    intro h r hr
    rw [Finset.fold_insert ha] at h
    rcases Finset.mem_insert.mp hr with rfl | hr
    · exact (both _ _ h).1
    · exact ih (both _ _ h).2 r hr

set_option maxRecDepth 16384 in
/-- Where the mask is set each value of the nine is above the next. -/
theorem falls_apply (v : FVec Ideal S4096x50x9 .f32) (i : Fin 4096) (b : Fin 50) (d : Fin 64)
   (h : falls v (ix3 i b d) = 1#1) (r : Fin 8) : v (ix3 i b r.succ) < v (ix3 i b r.castSucc) := by
  revert h
  pointwise [falls]
  intro h
  have h := all_set _ _ h r (Finset.mem_univ r)
  have h : v (ix3 i b ⟨1 + r.val, by omega⟩) < v (ix3 i b ⟨r.val, by omega⟩) :=
    of_decide_eq_true (StableHlo.Predicate.ofBool_eq_one_iff _ |>.mp h)
  have e : r.succ = ⟨1 + r.val, by omega⟩ := Fin.ext (Nat.add_comm _ _)
  rw [e]
  exact h

/-- So there the token's similarities are ranked by their order. -/
theorem ranked (x : FVec Ideal S4096x50x64 .f32) (y : FVec Ideal S512x64 .f32) (i : Fin 4096) (b : Fin 50) (d : Fin 64)
    (h : (fn x y).1 (ix3 i b d) = 1#1) :
    Ranked (sims (token x i b) (protos y)) fun r => order (sims (token x i b) (protos y)) (lead r) := by
  rw [fn_eq] at h
  have hc : (fun k => cosines x y (ix3 i b k)) = fun k => cosine (token x i b) (protos y k) :=
    funext fun k => cosines_apply x y i b k
  have hn : ∀ r : Fin 9, nine (cosines x y) (ix3 i b r)
      = cosine (token x i b) (protos y (order (fun k => cosine (token x i b) (protos y k)) (lead r))) := by
    intro r
    refine ((topK_apply (n := 9) (by omega) (cosines x y) sliceFits_S4096x50x512_S4096x50x9 i b r).1).trans ?_
    rw [cosines_apply, hc]
    rfl
  have ho : order (sims (token x i b) (protos y)) = order fun k => cosine (token x i b) (protos y k) :=
    order_congr fun k k' => sims_lt _ _ k k'
  apply ranked_of_order
  intro r
  have hr := falls_apply _ i b d h r
  rw [hn, hn] at hr
  rw [ho, sims_lt]
  exact hr

end Cert.Mask
-- ==== Proof.Take.lean ====
/- Rows of the table taken at small nonnegative places are the rows there. -/
module

public import proofs.«01_k».proof.Proof.Arrays
public import proofs.«01_k».proof.Proof.Order
public import proofs.«01_k».proof.Proof.Gen.ReferenceIdeal.Run
public import Idealize.ShloMosaic.Lib.StableHlo.Predicate

@[expose] public section

noncomputable section

namespace Cert.Reference

open Idealize.ShloMosaic Idealize.ShloMosaic.TcCoe Cert.ReferenceIdeal Cert.ReferenceIdeal.Facts₀ Cert.ReferenceIdeal.Facts Cert.Row Cert.Block Cert.Arrays

/-- The places as start indices, a negative one counted from the end. -/
def starts (w : IVec S4096x50x8 32) : IVec S4096x50x8x1 32 :=
  broadcastInDim S4096x50x8x1 ![0, 1, 2] bcast_S4096x50x8_S4096x50x8x1_0_1_2
    (select (cmpi .slt w (broadcastInDim S4096x50x8 ![] bcast_S_S4096x50x8 (constantI S_ 32 0#32)))
      (addi w (broadcastInDim S4096x50x8 ![] bcast_S_S4096x50x8 (constantI S_ 32 512#32))) w)

/-- Whether a place is one of the table's. -/
def inside (w : IVec S4096x50x8x1 32) : IVec S4096x50x8 1 :=
  Host.reduce IntOp.andi
    (andi (cmpi .sge w (broadcastInDim S4096x50x8x1 ![] bcast_S_S4096x50x8x1 (constantI S_ 32 0#32)))
      (cmpi .sle w (broadcastInDim S4096x50x8x1 ![0, 1, 2, 3] bcast_S1x1x1x1_S4096x50x8x1_0_1_2_3
        (broadcastInDim S1x1x1x1 ![3] bcast_S1_S1x1x1x1_3 (constantI S1 32 511#32)))))
    (constantI S_ 1 1#1) reducesTo_S4096x50x8x1_S4096x50x8_d3 h_S_

/-- The rows of the table at the places. -/
def taken (y : FVec Ideal S512x64 .f32) (w : IVec S4096x50x8x1 32) : FVec Ideal S4096x50x8x64 .f32 :=
  Host.gather gather_S512x64_S4096x50x8x1_S4096x50x8x64_3_0_n_n_0_3_164 y w

/-- The same, with the places outside the table marked. -/
def rows (y : FVec Ideal S512x64 .f32) (w : IVec S4096x50x8x1 32) : FVec Ideal S4096x50x8x64 .f32 :=
  select (broadcastInDim S4096x50x8x64 ![0, 1, 2] bcast_S4096x50x8_S4096x50x8x64_0_1_2 (inside w)) (taken y w)
    (broadcastInDim S4096x50x8x64 ![] bcast_S_S4096x50x8x64 (constant S_ .f32 0x7FC00000#32))

/-- Small words are not negative and lie in the table. -/
theorem small_slt : ∀ k : Fin 512, IntOp.cmpi .slt (BitVec.ofNat 32 k.val) 0#32 = 0#1 := by decide +kernel
theorem small_inside : ∀ k : Fin 512, IntOp.andi (IntOp.cmpi .sge (BitVec.ofNat 32 k.val) 0#32)
    (IntOp.cmpi .sle (BitVec.ofNat 32 k.val) 511#32) = 1#1 := by decide +kernel
theorem small_start : ∀ k : Fin 512, min (BitVec.ofNat 32 k.val).toInt.toNat 511 = k.val := by decide +kernel

set_option maxRecDepth 16384 in
theorem starts_apply (w : IVec S4096x50x8 32) (i : Fin 4096) (b : Fin 50) (r : Fin 8) (k : Fin 512)
    (h : w (ix3 i b r) = BitVec.ofNat 32 k.val) : starts w (ix4 i b r 0) = BitVec.ofNat 32 k.val := by
  pointwise [starts]
  rw [h, small_slt]
  rfl

set_option maxRecDepth 16384 in
theorem inside_apply (w : IVec S4096x50x8x1 32) (i : Fin 4096) (b : Fin 50) (r : Fin 8) (k : Fin 512)
    (h : w (ix4 i b r 0) = BitVec.ofNat 32 k.val) : inside w (ix3 i b r) = 1#1 := by
  pointwise [inside]
  have e : ∀ x : Fin 1, IntOp.andi (IntOp.cmpi .sge (w (ix4 i b r x)) 0#32) (IntOp.cmpi .sle (w (ix4 i b r x)) 511#32) = 1#1 := by
    intro x
    rw [Subsingleton.elim x 0, h, small_inside]
  simp only [e]
  decide

/-- The start index a result entry reads. -/
theorem start_at (i : Fin 4096) (b : Fin 50) (r : Fin 8) (d : Fin 64) (z) :
    gather_S512x64_S4096x50x8x1_S4096x50x8x64_3_0_n_n_0_3_164.siIdx (ix4 i b r d) z = ix4 i b r 0 := by
  funext a
  fin_cases a
  · rfl
  · rfl
  · rfl
  · exact Subsingleton.elim (α := Fin 1) _ _

theorem taken_apply (y : FVec Ideal S512x64 .f32) (w : IVec S4096x50x8x1 32) (i : Fin 4096) (b : Fin 50) (r : Fin 8) (d : Fin 64)
    (k : Fin 512) (h : w (ix4 i b r 0) = BitVec.ofNat 32 k.val) : taken y w (ix4 i b r d) = y (ix2 k d) := by
  unfold taken Host.gather
  congr 1
  funext a
  apply Fin.ext
  revert a
  refine Fin.forall_fin_two.mpr ⟨?_, ?_⟩
  · refine Eq.trans ?_ (small_start k)
    rw [← h]
    simp only [GatherDims.operandIdx, GatherDims.start, GatherDims.batchCoord, GatherDims.offCoord, start_at]
    rw [dif_pos (by decide), dif_neg (by decide), dif_neg (by decide)]
    rfl
  · simp only [GatherDims.operandIdx, GatherDims.start, GatherDims.batchCoord, GatherDims.offCoord]
    rw [dif_neg (by decide), dif_neg (by decide), dif_pos (by decide)]
    exact Nat.zero_add _

set_option maxRecDepth 16384 in
theorem rows_apply (y : FVec Ideal S512x64 .f32) (w : IVec S4096x50x8x1 32) (i : Fin 4096) (b : Fin 50) (r : Fin 8) (d : Fin 64)
    (k : Fin 512) (h : w (ix4 i b r 0) = BitVec.ofNat 32 k.val) : rows y w (ix4 i b r d) = protos y k d := by
  pointwise [rows]
  rw [inside_apply w i b r k h, taken_apply y w i b r d k h]
  rfl

end Cert.Reference
-- ==== Proof.Reference.lean ====
/- What the reference computes: the similarities; of each token the eight greatest with their positions; their softmax; and the
   mean of the prototypes at those positions under these weights. -/
module

public import proofs.«01_k».proof.Proof.Take
public import proofs.«01_k».proof.Proof.Order
public import proofs.«01_k».proof.Proof.Gen.ReferenceIdeal.Run

@[expose] public section

noncomputable section

namespace Cert.Reference

open Idealize.ShloMosaic Idealize.ShloMosaic.TcCoe Cert.ReferenceIdeal Cert.ReferenceIdeal.Facts₀ Cert.ReferenceIdeal.Facts Cert.Row Cert.Block Cert.Arrays

/-- The cosines, as the reference computes them. -/
def cosines (x : FVec Ideal S4096x50x64 .f32) (y : FVec Ideal S512x64 .f32) : FVec Ideal S4096x50x512 .f32 :=
  Host.dotGeneral dot_S4096x50x64_S512x64_S4096x50x512_2_1_01_0_n_n none
    (Host.divf x (broadcastInDim S4096x50x64 ![0, 1, 2] bcast_S4096x50x1_S4096x50x64_0_1_2
      (addf (Host.sqrt (broadcastInDim S4096x50x1 ![0, 1] bcast_S4096x50_S4096x50x1_0_1
        (Host.reduceAdd (mulf x x) (constant S_ .f32 0x00000000#32) reducesTo_S4096x50x64_S4096x50_d2 h_S_)))
        (broadcastInDim S4096x50x1 ![] bcast_S_S4096x50x1 (constant S_ .f32 0x33D6BF95#32)))))
    (Host.divf y (broadcastInDim S512x64 ![0, 1] bcast_S512x1_S512x64_0_1
      (addf (Host.sqrt (broadcastInDim S512x1 ![0] bcast_S512_S512x1_0
        (Host.reduceAdd (mulf y y) (constant S_ .f32 0x00000000#32) reducesTo_S512x64_S512_d1 h_S_)))
        (broadcastInDim S512x1 ![] bcast_S_S512x1 (constant S_ .f32 0x33D6BF95#32)))))

set_option maxRecDepth 16384 in
theorem cosines_apply (x : FVec Ideal S4096x50x64 .f32) (y : FVec Ideal S512x64 .f32) (i : Fin 4096) (b : Fin 50) (k : Fin 512) :
    cosines x y (ix3 i b k) = cosine (token x i b) (protos y k) := by
  pointwise [cosines]
  rfl

/-- The similarities: the cosines by the temperature. -/
def sim (x : FVec Ideal S4096x50x64 .f32) (y : FVec Ideal S512x64 .f32) : FVec Ideal S4096x50x512 .f32 :=
  Host.divf (cosines x y) (broadcastInDim S4096x50x512 ![] bcast_S_S4096x50x512 (constant S_ .f32 0x3DCCCCCD#32))

set_option maxRecDepth 16384 in
theorem sim_apply (x : FVec Ideal S4096x50x64 .f32) (y : FVec Ideal S512x64 .f32) (i : Fin 4096) (b : Fin 50) (k : Fin 512) :
    sim x y (ix3 i b k) = sims (token x i b) (protos y) k := by
  pointwise [sim]
  rw [cosines_apply]
  exact cosine_div_temp _ _ _

/-- The eight greatest of each token, and where they are. -/
def values (s : FVec Ideal S4096x50x512 .f32) : FVec Ideal S4096x50x8 .f32 :=
  (Host.topK S4096x50x8 2 (FloatOps.cmpfTotal .gt) s sliceFits_S4096x50x512_S4096x50x8).1
def places (s : FVec Ideal S4096x50x512 .f32) : IVec S4096x50x8 32 :=
  (Host.topK S4096x50x8 2 (FloatOps.cmpfTotal .gt) s sliceFits_S4096x50x512_S4096x50x8).2

/-- The greatest of the values, from minus infinity on. -/
def most (v : FVec Ideal S4096x50x8 .f32) : FVec Ideal S4096x50 .f32 :=
  Host.reduce FloatOps.maximumf v (constant S_ .f32 0xFF800000#32) reducesTo_S4096x50x8_S4096x50_d2 h_S_

/-- The same, again no less than minus infinity. -/
def base (v : FVec Ideal S4096x50 .f32) : FVec Ideal S4096x50 .f32 :=
  maximumf (broadcastInDim S4096x50 ![] bcast_S_S4096x50 (constant S_ .f32 0xFF800000#32)) v

/-- The exponentials of the values less the greatest of them. -/
def exps (v : FVec Ideal S4096x50x8 .f32) : FVec Ideal S4096x50x8 .f32 :=
  Host.exp (subf v (broadcastInDim S4096x50x8 ![0, 1, 2] bcast_S4096x50x1_S4096x50x8_0_1_2
    (broadcastInDim S4096x50x1 ![0, 1] bcast_S4096x50_S4096x50x1_0_1
      (base (most v)))))

/-- The weights. -/
def shares (e : FVec Ideal S4096x50x8 .f32) : FVec Ideal S4096x50x8 .f32 :=
  Host.divf e (broadcastInDim S4096x50x8 ![0, 1, 2] bcast_S4096x50x1_S4096x50x8_0_1_2
    (broadcastInDim S4096x50x1 ![0, 1] bcast_S4096x50_S4096x50x1_0_1
      (Host.reduceAdd e (constant S_ .f32 0x00000000#32) reducesTo_S4096x50x8_S4096x50_d2 h_S_)))

/-- The weighted sum. -/
def mix (w : FVec Ideal S4096x50x8 .f32) (p : FVec Ideal S4096x50x8x64 .f32) : FVec Ideal S4096x50x64 .f32 :=
  Host.dotGeneral dot_S4096x50x8_S4096x50x8x64_S4096x50x64_2_2_n_3_01_01 none w p

/-- The second result, by its stages. -/
def out (x : FVec Ideal S4096x50x64 .f32) (y : FVec Ideal S512x64 .f32) : FVec Ideal S4096x50x64 .f32 :=
  mix (shares (exps (values (sim x y)))) (rows y (starts (places (sim x y))))

set_option maxRecDepth 16384 in
theorem mix_apply (w : FVec Ideal S4096x50x8 .f32) (p : FVec Ideal S4096x50x8x64 .f32) (i : Fin 4096) (b : Fin 50) (d : Fin 64) :
    mix w p (ix3 i b d) = ∑ r : Fin 8, w (ix3 i b r) * p (ix4 i b r d) := by
  pointwise [mix]

set_option maxRecDepth 16384 in
theorem shares_apply (e : FVec Ideal S4096x50x8 .f32) (i : Fin 4096) (b : Fin 50) (r : Fin 8) :
    shares e (ix3 i b r) = Ideal.div (e (ix3 i b r)) (∑ r : Fin 8, e (ix3 i b r)) := by
  pointwise [shares]

/-- The greatest of eight values none of which exceeds the first. -/
theorem greatest (f : Fin 8 → EReal) (h : ∀ q, f q ≤ f 0) : Finset.fold max ⊥ f Finset.univ = f 0 :=
  le_antisymm ((Finset.fold_max_le _).mpr ⟨bot_le, fun q _ => h q⟩)
    ((Finset.le_fold_max _).mpr (Or.inr ⟨0, Finset.mem_univ _, le_rfl⟩))

set_option maxRecDepth 16384 in
theorem most_apply (v : FVec Ideal S4096x50x8 .f32) (i : Fin 4096) (b : Fin 50)
    (h : ∀ q : Fin 8, v (ix3 i b q) ≤ v (ix3 i b 0)) : most v (ix2 i b) = v (ix3 i b 0) := by
  pointwise [most]
  rw [negInf]
  exact greatest (fun q => v (ix3 i b q)) h

theorem base_apply (v : FVec Ideal S4096x50 .f32) (i : Fin 4096) (b : Fin 50) : base v (ix2 i b) = v (ix2 i b) :=
  (congrArg (fun z : EReal => max z (v (ix2 i b))) negInf).trans (max_eq_right bot_le)

set_option maxRecDepth 16384 in
theorem exps_apply (v : FVec Ideal S4096x50x8 .f32) (i : Fin 4096) (b : Fin 50) (r : Fin 8)
    (h : ∀ q : Fin 8, v (ix3 i b q) ≤ v (ix3 i b 0)) :
    exps v (ix3 i b r) = Ideal.exp (v (ix3 i b r) - v (ix3 i b 0)) := by
  pointwise [exps]
  rw [base_apply, most_apply v i b h]

/-- A sum over a ranked token's eight is the reference's. -/
theorem out_apply (x : FVec Ideal S4096x50x64 .f32) (y : FVec Ideal S512x64 .f32) (i : Fin 4096) (b : Fin 50) (d : Fin 64)
    (h : Ranked (sims (token x i b) (protos y)) fun r => order (sims (token x i b) (protos y)) (lead r)) :
    out x y (ix3 i b d) = mean (sims (token x i b) (protos y)) fun k => protos y k d := by
  have hs : (fun k => sim x y (ix3 i b k)) = sims (token x i b) (protos y) := funext fun k => sim_apply x y i b k
  have hv : ∀ r : Fin 8, values (sim x y) (ix3 i b r)
      = sims (token x i b) (protos y) (order (sims (token x i b) (protos y)) (lead r.castSucc)) := by
    intro r
    refine ((topK_apply (n := 8) (by omega) (sim x y) sliceFits_S4096x50x512_S4096x50x8 i b r).1).trans ?_
    rw [sim_apply, hs]
    rfl
  have hp : ∀ r : Fin 8, places (sim x y) (ix3 i b r)
      = BitVec.ofNat 32 (order (sims (token x i b) (protos y)) (lead r.castSucc)).val := by
    intro r
    refine ((topK_apply (n := 8) (by omega) (sim x y) sliceFits_S4096x50x512_S4096x50x8 i b r).2).trans ?_
    rw [hs]
    rfl
  have he : ∀ r : Fin 8, exps (values (sim x y)) (ix3 i b r)
      = Ideal.exp (sims (token x i b) (protos y) (order (sims (token x i b) (protos y)) (lead r.castSucc))
        - sims (token x i b) (protos y) (order (sims (token x i b) (protos y)) (lead 0))) := by
    intro r
    rw [exps_apply _ i b r, hv, hv]
    · rfl
    · intro q
      rw [hv, hv]
      exact h.le (Fin.zero_le _)
  rw [h.mean_eq (fun k => sims_real _ _ k), out, mix_apply]
  refine Finset.sum_congr rfl fun r _ => ?_
  rw [shares_apply, rows_apply y _ i b r d _ (starts_apply _ i b r _ (hp r))]
  simp only [he]

end Cert.Reference
-- ==== Proof.Staged.lean ====
/- The composed term of the reference is its stages. -/
module

public import proofs.«01_k».proof.Proof.Reference
public import proofs.«01_k».proof.Proof.Gen.ReferenceIdeal.Run

@[expose] public section

noncomputable section

namespace Cert.Reference

open Idealize.ShloMosaic Idealize.ShloMosaic.TcCoe Cert.ReferenceIdeal

set_option maxRecDepth 16384 in
theorem res_eq (m : (ℓ : Loc nD τ sig) → Buf (Elt Ideal) ℓ) (c : Dev nD) :
    Value.res_main_v25 m c = out (m ((c : Thread nD τ).loc main_arg0)) (m ((c : Thread nD τ).loc main_arg1)) := rfl

end Cert.Reference
-- ==== Proof.Claims.lean ====
/- The claims: the programs end and leave the arguments as they were; the named constant is the kernel's; and where the mask is set the
   kernel's results are the reference's. -/
module

public import proofs.«01_k».proof.Defs
public import proofs.«01_k».proof.Proof.Mask
public import proofs.«01_k».proof.Proof.Staged
public import proofs.«01_k».proof.Proof.Gen.Kernel.Frame

@[expose] public section

noncomputable section

namespace Cert.Claims

open Idealize.ShloMosaic Idealize.ShloMosaic.TcCoe Idealize.SL.Sem

attribute [local instance] Cert.On_untied.Gen.facts

theorem kernel : Cert.quiescent_Kernel := fun m ρ _ => Cert.Kernel.Gen.frame m ρ

theorem kernelIdeal : Cert.quiescent_KernelIdeal := fun m ρ _ => Cert.KernelIdeal.Gen.frame m ρ

theorem referenceIdeal : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem preserves : Cert.preserves_Kernel_KernelIdeal :=
  IdealRules.named_const.statement Cert.KernelIdeal.κ "inv_temp" .f32 0x41200000#32 _ rfl

/-- The reference's first result is the similarities. -/
theorem sim_eq (x : FVec Ideal Cert.ReferenceIdeal.S4096x50x64 .f32) (y : FVec Ideal Cert.ReferenceIdeal.S512x64 .f32) :
    Cert.Reference.sim x y = Cert.Arrays.simOf x y := by
  funext i
  obtain ⟨a, b, k, rfl⟩ : ∃ (a : Fin 4096) (b : Fin 50) (k : Fin 512), i = ix3 a b k := ⟨i 0, i 1, i 2, eq_ix3 i⟩
  exact Cert.Reference.sim_apply x y a b k

/-- Where the mask is set, the reference's second result is the kernel's. -/
theorem out_eq (x : FVec Ideal Cert.ReferenceIdeal.S4096x50x64 .f32) (y : FVec Ideal Cert.ReferenceIdeal.S512x64 .f32)
    (i : Cert.ReferenceIdeal.S4096x50x64.Idx) (h : (Cert.On_untied.fn (F := Ideal) x y).1 i = 1#1) :
    Cert.Reference.out x y i = Cert.Arrays.outOf x y i := by
  obtain ⟨a, b, d, rfl⟩ : ∃ (a : Fin 4096) (b : Fin 50) (d : Fin 64), i = ix3 a b d := ⟨i 0, i 1, i 2, eq_ix3 i⟩
  exact Cert.Reference.out_apply x y a b d (Cert.Mask.ranked x y a b d h)

theorem algebraic : Cert.algebraic_KernelIdeal_ReferenceIdeal_on_untied := by
  intro m ρ m' ρ' _ hagree
  refine ⟨fun c => Cert.Arrays.outOf (m ((c : Thread Cert.KernelIdeal.nD Cert.KernelIdeal.τ).loc Cert.KernelIdeal.main_arg0))
      (m ((c : Thread Cert.KernelIdeal.nD Cert.KernelIdeal.τ).loc Cert.KernelIdeal.main_arg1)),
    fun c => Cert.Arrays.simOf (m ((c : Thread Cert.KernelIdeal.nD Cert.KernelIdeal.τ).loc Cert.KernelIdeal.main_arg0))
      (m ((c : Thread Cert.KernelIdeal.nD Cert.KernelIdeal.τ).loc Cert.KernelIdeal.main_arg1)), ?_, ?_⟩
  · exact (θ_run Cert.KernelIdeal.defs _ _).mono
      (fun _ h c => ⟨fun i _ => congrFun (h c).2.1 i, fun i _ => congrFun (h c).1 i, (h c).2.2⟩)
      (Cert.Arrays.run m ρ)
  · refine (θ_run Cert.ReferenceIdeal.defs _ _).mono (fun _ h c => ⟨fun i hi => ?_, fun i _ => ?_, (h c).2.2⟩)
      (Cert.ReferenceIdeal.Value.run (F := Ideal) m' ρ')
    · refine (congrFun ((h c).1.trans (Cert.Reference.res_eq m' c)) i).trans ?_
      rw [(hagree c).1, (hagree c).2]
      exact out_eq _ _ i hi
    · refine (congrFun (h c).2.1 i).trans ?_
      rw [(hagree c).1, (hagree c).2]
      exact congrFun (sim_eq _ _) i

end Cert.Claims
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.On_untied
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.On_untied.Gen.facts,
  Cert.Claims.kernel, Cert.Claims.kernelIdeal, Cert.Claims.referenceIdeal, Cert.Claims.preserves, Cert.Claims.algebraic⟩

end Cert.Proof

end
